-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_interior [hPre_interior : Cert.Pre_interior.Facts] (m : (ℓ : Loc Cert.KernelIdeal.nD Cert.KernelIdeal.τ Cert.KernelIdeal.sig) → Buf (Elt Ideal) ℓ) : Prop :=
  ∀ c : Dev Cert.KernelIdeal.nD,
    (Cert.Pre_interior.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_interior [hPre_interior : Cert.Pre_interior.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_interior.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_interior [hKernelIdeal : Cert.KernelIdeal.Facts] [hPre_interior : Cert.Pre_interior.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_interior m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_interior [hReferenceIdeal : Cert.ReferenceIdeal.Facts] [hPre_interior : Cert.Pre_interior.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_interior m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_interior [hKernelIdeal : Cert.KernelIdeal.Facts] [hReferenceIdeal : Cert.ReferenceIdeal.Facts] [hPre_interior : Cert.Pre_interior.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_interior m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_interior : Cert.Pre_interior.Facts),
    quiescent_Kernel (hKernel := hKernel)
    ∧ quiescent_KernelIdeal (hKernelIdeal := hKernelIdeal)
    ∧ quiescent_KernelIdeal_pre_interior (hKernelIdeal := hKernelIdeal) (hPre_interior := hPre_interior)
    ∧ quiescent_ReferenceIdeal (hReferenceIdeal := hReferenceIdeal)
    ∧ quiescent_ReferenceIdeal_pre_interior (hReferenceIdeal := hReferenceIdeal) (hPre_interior := hPre_interior)
    ∧ preserves_Kernel_KernelIdeal
    ∧ algebraic_KernelIdeal_ReferenceIdeal_pre_interior (hKernelIdeal := hKernelIdeal) (hReferenceIdeal := hReferenceIdeal) (hPre_interior := hPre_interior)
-- ==== Pre_interior.lean ====
abbrev S128x100000 : Shape := ⟨2, ![128, 100000]⟩
abbrev S_ : Shape := ⟨0, ![]⟩

class Facts : Prop where
  bcast_S_S128x100000 : S_.BroadcastsInDim S128x100000 (![] : Fin 0 → Fin S128x100000.rank)

variable [Facts]

def fn {F : FTy → Type} [FloatOps F] (main_arg0 : FVec F S128x100000 .f32) (main_arg1 : FVec F S128x100000 .f32) : IVec S128x100000 1 :=
  let main_cst : FVec F S_ .f32 := constant S_ .f32 0xFF800000#32
  let main_v0 : FVec F S128x100000 .f32 := broadcastInDim S128x100000 ![] bcast_S_S128x100000 main_cst
  let main_v1 : IVec S128x100000 1 := cmpf .ogt main_arg0 main_v0
  let main_cst_0 : FVec F S_ .f32 := constant S_ .f32 0x7F800000#32
  let main_v2 : FVec F S128x100000 .f32 := broadcastInDim S128x100000 ![] bcast_S_S128x100000 main_cst_0
  let main_v3 : IVec S128x100000 1 := cmpf .olt main_arg0 main_v2
  let main_v4 : IVec S128x100000 1 := andi main_v1 main_v3
  let main_cst_1 : FVec F S_ .f32 := constant S_ .f32 0x00000000#32
  let main_v5 : FVec F S128x100000 .f32 := broadcastInDim S128x100000 ![] bcast_S_S128x100000 main_cst_1
  let main_v6 : IVec S128x100000 1 := cmpf .ogt main_arg1 main_v5
  let main_v7 : IVec S128x100000 1 := andi main_v4 main_v6
  let main_cst_2 : FVec F S_ .f32 := constant S_ .f32 0x3F800000#32
  let main_v8 : FVec F S128x100000 .f32 := broadcastInDim S128x100000 ![] bcast_S_S128x100000 main_cst_2
  let main_v9 : IVec S128x100000 1 := cmpf .olt main_arg1 main_v8
  let main_v10 : IVec S128x100000 1 := andi main_v7 main_v9
  main_v10
-- ==== Kernel.lean ====
abbrev S128x100000 : Shape := ⟨2, ![128, 100000]⟩
abbrev S100000x128 : Shape := ⟨2, ![100000, 128]⟩
abbrev S10000x128 : Shape := ⟨2, ![10000, 128]⟩
abbrev S1x128 : Shape := ⟨2, ![1, 128]⟩
abbrev S128 : Shape := ⟨1, ![128]⟩

abbrev nBuf : Space → Nat
  | .hbm => 6
  | .vmem => 8
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .hbm, ⟨2, _⟩ => ⟨S100000x128, .f32⟩
  | .hbm, ⟨3, _⟩ => ⟨S100000x128, .f32⟩
  | .hbm, ⟨4, _⟩ => ⟨S100000x128, .f32⟩
  | .hbm, ⟨5, _⟩ => ⟨S128x100000, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S100000x128, .bf16⟩
  | .local _ .vmem, ⟨7, _⟩ => ⟨S1x128, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 10], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg1 : BitVec 32 := BitVec.ofNat 32 (i 1).val
  let c10000_i32 : BitVec 32 := 10000#32
  let v16 : BitVec 32 := Scalar.muli arg1 c10000_i32
  let v17 : Index := Scalar.indexCast v16
  let c0_5 : Index := 0#32
  ![v17.toNat, 0]
def k0_cond4 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_off2 (i : grid0.Coords) : Fin 2 → Nat :=
  let arg1 : BitVec 32 := BitVec.ofNat 32 (i 1).val
  let c10000_i32 : BitVec 32 := 10000#32
  let v6 : BitVec 32 := Scalar.muli arg1 c10000_i32
  let v7 : Index := Scalar.indexCast v6
  let c0 : Index := 0#32
  ![v7.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c9_i32 : BitVec 32 := 9#32
  let v1 : BitVec 32 := Scalar.select v0 arg1 c9_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c9_i32 : BitVec 32 := 9#32
  let v1 : BitVec 32 := Scalar.select v0 arg1 c9_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S128x100000 : Shape := ⟨2, ![128, 100000]⟩
abbrev S_ : Shape := ⟨0, ![]⟩
abbrev S128 : Shape := ⟨1, ![128]⟩
abbrev S128x1 : Shape := ⟨2, ![128, 1]⟩

abbrev nBuf : Space → Nat
  | .hbm => 24
  | .vmem => 0
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .hbm, ⟨2, _⟩ => ⟨S128x100000, .f32⟩
  | .hbm, ⟨3, _⟩ => ⟨S128x100000, .f32⟩
  | .hbm, ⟨4, _⟩ => ⟨S128x100000, .f32⟩
  | .hbm, ⟨5, _⟩ => ⟨S128x100000, .f32⟩
  | .hbm, ⟨6, _⟩ => ⟨S128x100000, .f32⟩
  | .hbm, ⟨7, _⟩ => ⟨S_, .f32⟩
  | .hbm, ⟨8, _⟩ => ⟨S128x100000, .f32⟩
  | .hbm, ⟨9, _⟩ => ⟨S128x100000, .f32⟩
  | .hbm, ⟨10, _⟩ => ⟨S_, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S128x1, .f32⟩
  | .hbm, ⟨16, _⟩ => ⟨S128x100000, .f32⟩
  | .hbm, ⟨17, _⟩ => ⟨S128x100000, .f32⟩
  | .hbm, ⟨18, _⟩ => ⟨S128x100000, .f32⟩
  | .hbm, ⟨19, _⟩ => ⟨S_, .f32⟩
  | .hbm, ⟨20, _⟩ => ⟨S128, .f32⟩
  | .hbm, ⟨21, _⟩ => ⟨S128x1, .f32⟩
  | .hbm, ⟨22, _⟩ => ⟨S128x100000, .f32⟩
  | .hbm, ⟨23, _⟩ => ⟨S128x100000, .f32⟩
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.Points.lean ====
/-
  The grid points of the kernel, two phases of ten each: which branch of the body runs at a point, in closed form;
  the buffers the body is handed there; and the invariant the launch starts and ends with, spelt over the two
  scratch buffers.
-/
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branches -/

/-- The accumulating branch: the first phase. -/
abbrev Accumulates (i : grid0.Coords) : Prop := k0_cond1 i = 1#1
/-- The branch that starts the running sum: the chunk is the first. -/
abbrev Starts (i : grid0.Coords) : Prop :=
  Scalar.cmpi .ne (Scalar.extui (Scalar.cmpi .eq (BitVec.ofNat 32 (i 1).val) 0#32)) 0#32 = 1#1
/-- The branch that adds to the running sum: the chunk is a later one. -/
abbrev Continues (i : grid0.Coords) : Prop :=
  Scalar.cmpi .ne (Scalar.extui (Scalar.cmpi .sgt (BitVec.ofNat 32 (i 1).val) 0#32)) 0#32 = 1#1
/-- The normalizing branch: the second phase. -/
abbrev Normalizes (i : grid0.Coords) : Prop := k0_cond4 i = 1#1

theorem accumulates_iff : ∀ t : Fin cfg0.N, Accumulates (grid0.coords t) ↔ t.val < 10 :=
  (by decide +kernel : ∀ t : Fin grid0.N, Accumulates (grid0.coords t) ↔ t.val < 10)
theorem starts_iff : ∀ t : Fin cfg0.N, Starts (grid0.coords t) ↔ t.val % 10 = 0 :=
  (by decide +kernel : ∀ t : Fin grid0.N, Starts (grid0.coords t) ↔ t.val % 10 = 0)
theorem continues_iff : ∀ t : Fin cfg0.N, Continues (grid0.coords t) ↔ 0 < t.val % 10 :=
  (by decide +kernel : ∀ t : Fin grid0.N, Continues (grid0.coords t) ↔ 0 < t.val % 10)
theorem normalizes_iff : ∀ t : Fin cfg0.N, Normalizes (grid0.coords t) ↔ 10 ≤ t.val :=
  (by decide +kernel : ∀ t : Fin grid0.N, Normalizes (grid0.coords t) ↔ 10 ≤ t.val)

/-- The chunk a point works on. -/
theorem chunk_val : ∀ t : Fin cfg0.N, (grid0.coords t 1).val = t.val % 10 :=
  (by decide +kernel : ∀ t : Fin grid0.N, (grid0.coords t 1).val = t.val % 10)

theorem points : cfg0.N = 20 := N_0

/-- Position `n` as a grid point. -/
def pt (n : ℕ) : Fin cfg0.N := ⟨n % 20, by rw [points]; omega⟩

theorem pt_val (n : ℕ) (h : n < 20) : (pt n).val = n := Nat.mod_eq_of_lt h

theorem pt_of_val (t : Fin cfg0.N) : pt t.val = t := Fin.ext (pt_val _ (lt_of_lt_of_eq t.isLt points))

/-! ## The windows a point leaves alone -/

theorem live_logits (t : Fin cfg0.N) : cfg0.idle 0 (grid0.coords t) = false := rfl
theorem live_noise (t : Fin cfg0.N) : cfg0.idle 1 (grid0.coords t) = false := rfl
/-- The result's window is left alone through the first phase. -/
theorem idle_result : ∀ t : Fin cfg0.N, cfg0.idle 2 (grid0.coords t) = decide (t.val < 10) :=
  (by decide +kernel : ∀ t : Fin grid0.N, idle0 2 (grid0.coords t) = decide (t.val < 10))
/-- It is written back exactly at the points of the second phase. -/
theorem flush_result : ∀ t : Fin cfg0.N, (cfg0.win 2).flush t = decide (10 ≤ t.val) :=
  (by decide +kernel : ∀ t : Fin grid0.N, Pipeline.Window.flushOf grid0 true cc0_transform_2 t = decide (10 ≤ t.val))

/-! ## The buffers at a point -/

abbrev bufLogits (t : Fin cfg0.N) : Memref sig .tc .vmem S10000x128 .f32 := win0_0.stage (cfg0.slots t 0)
abbrev bufNoise (t : Fin cfg0.N) : Memref sig .tc .vmem S10000x128 .f32 := win0_1.stage (cfg0.slots t 1)
abbrev bufResult (t : Fin cfg0.N) : Memref sig .tc .vmem S10000x128 .f32 := win0_2.stage (cfg0.slots t 2)
/-- The scratch that keeps every weight between the phases. -/
abbrev weights : Memref sig .tc .vmem S100000x128 .bf16 := Memref.whole cc0_scratch0
/-- The scratch that keeps the running sum. -/
abbrev total : Memref sig .tc .vmem S1x128 .f32 := Memref.whole cc0_scratch1

/-- What the launch hands the first point and takes back from the last: both scratch buffers at some contents, and the
    generator register at some state. -/
theorem scratch_at_launch (c : Dev nD) :
    (Pipeline.ΦA spec0 c : sProp 𝕄)
      = iprop(iprop((∃ d, owns (c : Thread nD τ) weights fullShare d) ∗ (∃ d, owns (c : Thread nD τ) total fullShare d)) ∗ (∃ r, prngReg c r)) := by
  unfold Pipeline.ΦA; rw [scopedRest0_eq]; simp only [weights, total, owns_whole]; try rfl

end Cert.KernelIdeal.Hand

end
-- ==== Proof.Body.lean ====
/-
  What one run of the kernel body does to the buffers it is handed, case by case.

  In the first phase the body computes the weights `exp(logits) / (-log u)` of its chunk, stores them over the chunk's
  rows of the weight scratch and adds their column sums to the running sum (or starts it, at the first chunk). In the
  second phase it reads the chunk's rows back and stores them, scaled by one over the finished sum, in the result's
  buffer.
-/
module

public import proofs.«01_k».proof.Proof.Points
public import Idealize.ShloMosaic.Lib.VecWindow
public import Idealize.ShloMosaic.Lib.Pipeline.Value

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The weight scratch `d` with chunk `i`'s rows replaced by `w`. -/
def putChunk (i : grid0.Coords) (d : Vec F S100000x128 .bf16) (w : Vec F S10000x128 .bf16) : Vec F S100000x128 .bf16 :=
  VecWindow.put (s := S100000x128) d ![10000 * (i 1).val, 0] S10000x128.size w

/-- Chunk `i`'s rows of the weight scratch `d`. -/
def chunkOf (i : grid0.Coords) (hi : Normalizes i) (d : Vec F S100000x128 .bf16) : Vec F S10000x128 .bf16 :=
  VecWindow.window (s := S100000x128) d (k0_off2 i) S10000x128.size (k0_off2_inb i hi)

/-- A load of a whole buffer reads its contents. -/
theorem readAt_all {κ : Kind} {sp : Space} {s : Shape} {e : EltTy} (v : View sig κ sp s e) {off : Fin s.rank → ℕ}
    (inb : ∀ a, off a + s.size a ≤ s.size a) (f : v.ty.Contents (Elt F)) {X : s.Idx → Elt F e} (h : v.read (Elt F) f = X) :
    v.readAt (Elt F) (Rect.unit off s.size inb).toLoadRect f = X :=
  (View.readAt_full v f inb).trans h

/-- A store of a chunk's weights over the scratch. -/
theorem read_putChunk (i : grid0.Coords) (h1 : Accumulates i) {sp : Space} (M : Memref sig .tc sp S100000x128 .bf16)
    (f : M.view.ty.Contents (Elt F)) {d : Vec F S100000x128 .bf16} (hd : M.view.read (Elt F) f = d)
    (w : Vec F S10000x128 .bf16) {w' : Vec F S10000x128 .bf16} (hw : w = w') :
    M.view.read (Elt F) (M.view.writes (Elt F) f [⟨Rect.unit (s := S100000x128) (k0_off1 i) S10000x128.size (k0_off1_inb i h1), w⟩])
      = putChunk i d w' := by
  subst hw hd
  exact View.read_writes_cons_put M.view f (k0_off1_inb i h1) w [] (k0_off1_eq i)

/-- A point of the first phase after the first chunk. -/
theorem run_continues (c : Dev nD) (i : grid0.Coords) (arg2 : Memref sig .tc .vmem S10000x128 .f32) (harg2 : arg2.IsWhole)
    (arg3 : Memref sig .tc .vmem S10000x128 .f32) (harg3 : arg3.IsWhole) (arg4 : Memref sig .tc .vmem S10000x128 .f32) (harg4 : arg4.IsWhole)
    (arg5 : Memref sig .tc .vmem S100000x128 .bf16) (harg5 : arg5.IsWhole) (arg6 : Memref sig .tc .vmem S1x128 .f32) (harg6 : arg6.IsWhole)
    (h1 : Accumulates i) (h2 : ¬Starts i) (h3 : Continues i) (h4 : ¬Normalizes i)
    (x u : Vec F S10000x128 .f32) (d : Vec F S100000x128 .bf16) (s : Vec F S1x128 .f32) (E : Set ℕ) (K : PUnit → sProp 𝕄) :
    iprop(owns (c : Thread nD τ) arg2 fullShare x ∗ owns (c : Thread nD τ) arg3 fullShare u
        ∗ owns (c : Thread nD τ) arg5 fullShare d ∗ owns (c : Thread nD τ) arg6 fullShare s
        ∗ (iprop(owns (c : Thread nD τ) arg2 fullShare x ∗ owns (c : Thread nD τ) arg3 fullShare u
            ∗ owns (c : Thread nD τ) arg5 fullShare (putChunk i d (k0_pay2 u x))
            ∗ owns (c : Thread nD τ) arg6 fullShare (k0_pay5 u x s)) -∗ K ⟨⟩))
      ⊢ wp frame (wpE (defs₀ (F := F)) Variants.none c none) E (cc0__gumbel_softmax_body i arg2 harg2 arg3 harg3 arg4 harg4 arg5 harg5 arg6 harg6) K := by
  simp only [cc0__gumbel_softmax_body_eq_skeleton]; unfold cc0__gumbel_softmax_body_skel
  unfold owns
  iintro ⟨⟨%f0, %hf0, H0⟩, ⟨%f1, %hf1, H1⟩, ⟨%fs0, %hfs0, HS0⟩, ⟨%fs1, %hfs1, HS1⟩, Hk⟩
  obtain rfl := harg2.eq_unread hf0; obtain rfl := harg3.eq_unread hf1
  obtain rfl := harg5.eq_unread hfs0; obtain rfl := harg6.eq_unread hfs1
  sl_exec (disch := first | sl_exact h1 | sl_exact h2 | sl_exact h3 | sl_exact h4)
  sl_step
  iapply Hk
  isplitl [H0]
  · iexists _; isplitr; · ipureintro; exact harg2.read_unread _
    iexact H0
  isplitl [H1]
  · iexists _; isplitr; · ipureintro; exact harg3.read_unread _
    iexact H1
  isplitl [HS0]
  · iexists _; isplitr; swap; · iexact HS0
    ipureintro
    exact read_putChunk i h1 arg5 _ hfs0 _ (by rw [readAt_all arg3.view _ _ hf1, readAt_all arg2.view _ _ hf0])
  iexists _; isplitr; swap; · iexact HS1
  ipureintro
  exact (View.read_writes_full arg6.view _ _ _ _).trans
    (by rw [readAt_all arg3.view _ _ hf1, readAt_all arg2.view _ _ hf0, readAt_all arg6.view _ _ hfs1])

/-- The first point of all: the running sum, whatever it held, starts at the chunk's own sums. -/
theorem run_starts (c : Dev nD) (i : grid0.Coords) (arg2 : Memref sig .tc .vmem S10000x128 .f32) (harg2 : arg2.IsWhole)
    (arg3 : Memref sig .tc .vmem S10000x128 .f32) (harg3 : arg3.IsWhole) (arg4 : Memref sig .tc .vmem S10000x128 .f32) (harg4 : arg4.IsWhole)
    (arg5 : Memref sig .tc .vmem S100000x128 .bf16) (harg5 : arg5.IsWhole) (arg6 : Memref sig .tc .vmem S1x128 .f32) (harg6 : arg6.IsWhole)
    (h1 : Accumulates i) (h2 : Starts i) (h3 : ¬Continues i) (h4 : ¬Normalizes i)
    (x u : Vec F S10000x128 .f32) (d : Vec F S100000x128 .bf16) (s : Vec F S1x128 .f32) (E : Set ℕ) (K : PUnit → sProp 𝕄) :
    iprop(owns (c : Thread nD τ) arg2 fullShare x ∗ owns (c : Thread nD τ) arg3 fullShare u
        ∗ owns (c : Thread nD τ) arg5 fullShare d ∗ owns (c : Thread nD τ) arg6 fullShare s
        ∗ (iprop(owns (c : Thread nD τ) arg2 fullShare x ∗ owns (c : Thread nD τ) arg3 fullShare u
            ∗ owns (c : Thread nD τ) arg5 fullShare (putChunk i d (k0_pay2 u x))
            ∗ owns (c : Thread nD τ) arg6 fullShare (k0_pay4 u x)) -∗ K ⟨⟩))
      ⊢ wp frame (wpE (defs₀ (F := F)) Variants.none c none) E (cc0__gumbel_softmax_body i arg2 harg2 arg3 harg3 arg4 harg4 arg5 harg5 arg6 harg6) K := by
  simp only [cc0__gumbel_softmax_body_eq_skeleton]; unfold cc0__gumbel_softmax_body_skel
  unfold owns
  iintro ⟨⟨%f0, %hf0, H0⟩, ⟨%f1, %hf1, H1⟩, ⟨%fs0, %hfs0, HS0⟩, ⟨%fs1, %hfs1, HS1⟩, Hk⟩
  obtain rfl := harg2.eq_unread hf0; obtain rfl := harg3.eq_unread hf1
  obtain rfl := harg5.eq_unread hfs0; obtain rfl := harg6.eq_unread hfs1
  sl_exec (disch := first | sl_exact h1 | sl_exact h2 | sl_exact h3 | sl_exact h4)
  sl_step
  iapply Hk
  isplitl [H0]
  · iexists _; isplitr; · ipureintro; exact harg2.read_unread _
    iexact H0
  isplitl [H1]
  · iexists _; isplitr; · ipureintro; exact harg3.read_unread _
    iexact H1
  isplitl [HS0]
  · iexists _; isplitr; swap; · iexact HS0
    ipureintro
    exact read_putChunk i h1 arg5 _ hfs0 _ (by rw [readAt_all arg3.view _ _ hf1, readAt_all arg2.view _ _ hf0])
  iexists _; isplitr; swap; · iexact HS1
  ipureintro
  exact (View.read_writes_full arg6.view _ _ _ _).trans
    (by rw [readAt_all arg3.view _ _ hf1, readAt_all arg2.view _ _ hf0])

/-- A point of the second phase: the result's buffer, whatever it held, ends at the chunk's weights scaled. -/
theorem run_normalizes (c : Dev nD) (i : grid0.Coords) (arg2 : Memref sig .tc .vmem S10000x128 .f32) (harg2 : arg2.IsWhole)
    (arg3 : Memref sig .tc .vmem S10000x128 .f32) (harg3 : arg3.IsWhole) (arg4 : Memref sig .tc .vmem S10000x128 .f32) (harg4 : arg4.IsWhole)
    (arg5 : Memref sig .tc .vmem S100000x128 .bf16) (harg5 : arg5.IsWhole) (arg6 : Memref sig .tc .vmem S1x128 .f32) (harg6 : arg6.IsWhole)
    (h1 : ¬Accumulates i) (h4 : Normalizes i)
    (z : Vec F S10000x128 .f32) (d : Vec F S100000x128 .bf16) (s : Vec F S1x128 .f32) (E : Set ℕ) (K : PUnit → sProp 𝕄) :
    iprop(owns (c : Thread nD τ) arg4 fullShare z
        ∗ owns (c : Thread nD τ) arg5 fullShare d ∗ owns (c : Thread nD τ) arg6 fullShare s
        ∗ (iprop(owns (c : Thread nD τ) arg4 fullShare (k0_pay6 (chunkOf i h4 d) s)
            ∗ owns (c : Thread nD τ) arg5 fullShare d ∗ owns (c : Thread nD τ) arg6 fullShare s) -∗ K ⟨⟩))
      ⊢ wp frame (wpE (defs₀ (F := F)) Variants.none c none) E (cc0__gumbel_softmax_body i arg2 harg2 arg3 harg3 arg4 harg4 arg5 harg5 arg6 harg6) K := by
  simp only [cc0__gumbel_softmax_body_eq_skeleton]; unfold cc0__gumbel_softmax_body_skel
  unfold owns
  iintro ⟨⟨%f2, %hf2, H2⟩, ⟨%fs0, %hfs0, HS0⟩, ⟨%fs1, %hfs1, HS1⟩, Hk⟩
  obtain rfl := harg4.eq_unread hf2
  obtain rfl := harg5.eq_unread hfs0; obtain rfl := harg6.eq_unread hfs1
  sl_exec (disch := first | sl_exact h1 | sl_exact h4)
  sl_step
  iapply Hk
  isplitl [H2]
  · iexists _; isplitr; swap; · iexact H2
    ipureintro
    refine (View.read_writes_full arg4.view _ _ _ _).trans ?_
    rw [readAt_all arg6.view _ _ hfs1]
    refine congrArg (fun e => k0_pay6 e s) ?_
    exact (View.readAt_unit arg5.view _ _ rfl (k0_off2_inb i h4)).trans (by rw [hfs0]; rfl)
  isplitl [HS0]
  · iexists _; isplitr; · ipureintro; exact harg5.read_unread _
    iexact HS0
  iexists _; isplitr; · ipureintro; exact harg6.read_unread _
  iexact HS1

end Cert.KernelIdeal.Hand

end
-- ==== Proof.Launch.lean ====
/-
  The kernel's run, with the contents of its buffers named.

  After the points of the first phase so far, the weight scratch holds the weights of every chunk met and the running
  sum their column sums; the second phase changes neither. Each point of the second phase leaves the chunk's weights,
  scaled by one over the whole sum, in the result's buffer. The body keeps this from point to point, so the launch ends
  with the result array holding what the points of the second phase wrote back.
-/
module

public import proofs.«01_k».proof.Proof.Body

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- Chunk `k` of the logits, transposed. -/
def logitsOf (c : Dev nD) (k : ℕ) : Vec F S10000x128 .f32 := iblk m c 0 (pt k)
/-- Chunk `k` of the noise, transposed. -/
def noiseOf (c : Dev nD) (k : ℕ) : Vec F S10000x128 .f32 := iblk m c 1 (pt k)
/-- Chunk `k`'s weights, as the scratch keeps them. -/
def weightsOf (c : Dev nD) (k : ℕ) : Vec F S10000x128 .bf16 := k0_pay2 (noiseOf m c k) (logitsOf m c k)
/-- The running sum after chunk `k`. -/
def sumTo (c : Dev nD) : ℕ → Vec F S1x128 .f32
  | 0 => k0_pay4 (noiseOf m c 0) (logitsOf m c 0)
  | k + 1 => k0_pay5 (noiseOf m c (k + 1)) (logitsOf m c (k + 1)) (sumTo c k)

/-- The weight scratch `d` holds the weights of the first `n` chunks: row `10000 k + r` is row `r` of chunk `k`'s. -/
def Held (c : Dev nD) (n : ℕ) (d : Vec F S100000x128 .bf16) : Prop :=
  ∀ k, k < n → ∀ (y : S100000x128.Idx) (z : S10000x128.Idx),
    (y (0 : Fin 2)).val = 10000 * k + (z (0 : Fin 2)).val → (y (1 : Fin 2)).val = (z (1 : Fin 2)).val →
      d y = weightsOf m c k z

theorem held_none (c : Dev nD) (d : Vec F S100000x128 .bf16) : Held m c 0 d := fun k hk => absurd hk (Nat.not_lt_zero k)

/-- Storing the next chunk's weights. -/
theorem held_putChunk (c : Dev nD) (i : grid0.Coords) (n : ℕ) (hi : (i 1).val = n) (d : Vec F S100000x128 .bf16) (h : Held m c n d) :
    Held m c (n + 1) (putChunk i d (weightsOf m c n)) := by
  intro k hk y z h0 h1
  have hz0 : (z (0 : Fin 2)).val < 10000 := (z (0 : Fin 2)).isLt
  have hz1 : (z (1 : Fin 2)).val < 128 := (z (1 : Fin 2)).isLt
  unfold putChunk VecWindow.put
  rw [hi]
  by_cases hkn : k = n
  · subst hkn
    rw [dif_pos (show ∀ a : Fin 2, (![10000 * k, 0] : Fin 2 → ℕ) a ≤ (y a).val ∧ (y a).val < (![10000 * k, 0] : Fin 2 → ℕ) a + S10000x128.size a from
      Fin.forall_fin_two.mpr ⟨⟨by simp [h0], by simp [h0]; exact hz0⟩, ⟨by simp, by simp [h1]; exact hz1⟩⟩)]
    refine congrArg (weightsOf m c k) (Shape.idx_ext₂ ?_ ?_)
    · simp [h0]
    · simp [h1]
  · rw [dif_neg (fun hall => by
      have := (hall (0 : Fin 2)).1
      simp only [Matrix.cons_val_zero] at this
      omega)]
    exact h k (by omega) y z h0 h1

/-- Reading a chunk's rows back. -/
theorem chunkOf_held (c : Dev nD) (i : grid0.Coords) (hi : Normalizes i) (d : Vec F S100000x128 .bf16) (h : Held m c 10 d) :
    chunkOf i hi d = weightsOf m c (i 1).val := by
  funext z
  refine h (i 1).val (i 1).isLt _ z ?_ ?_
  · show k0_off2 i 0 + 1 * (z (0 : Fin 2)).val = _
    rw [k0_off2_eq]; simp
  · show k0_off2 i 1 + 1 * (z (1 : Fin 2)).val = _
    rw [k0_off2_eq]; simp

/-! ## From point to point -/

/-- Before position `n`: at the start what the launch hands over; later the weights of the chunks met so far and their
    running sum. -/
def Inv (c : Dev nD) : ℕ → sProp 𝕄
  | 0 => Pipeline.ΦA spec0 c
  | n + 1 => iprop(iprop((∃ d, ⌜Held m c (min (n + 1) 10) d⌝ ∗ owns (c : Thread nD τ) weights fullShare d)
      ∗ owns (c : Thread nD τ) total fullShare (sumTo m c (min n 9))) ∗ (∃ r, prngReg c r))

/-- The contents point by point: the inputs' buffers hold their blocks, and a point of the second phase leaves the
    chunk's weights scaled by one over the whole sum. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay6 (weightsOf m c (t.val % 10)) (sumTo m c 9)
  Φ t := Inv m c t.val
  q _ := fullShare
  owed _ := 0

theorem A_eq (c : Dev nD) (w : Fin cfg0.W) : (dats m 0 c).A w = V m c (Pipeline.arrRef spec0 w) := by
  dsimp only [dats]

theorem after_logits (c : Dev nD) (t : Fin cfg0.N) : (dats m 0 c).after 0 t = iblk m c 0 t := by dsimp only [dats]
theorem after_noise (c : Dev nD) (t : Fin cfg0.N) : (dats m 0 c).after 1 t = iblk m c 1 t := by dsimp only [dats]
theorem after_result (c : Dev nD) (t : Fin cfg0.N) :
    (dats m 0 c).after 2 t = k0_pay6 (weightsOf m c (t.val % 10)) (sumTo m c 9) := by dsimp only [dats]

theorem before_logits (c : Dev nD) (t : Fin cfg0.N) (d) : (dats m 0 c).before 0 t d = iblk m c 0 t :=
  before0_0_of m (dats m 0 c) (A_eq m c 0) (after_logits m c) t d
theorem before_noise (c : Dev nD) (t : Fin cfg0.N) (d) : (dats m 0 c).before 1 t d = iblk m c 1 t :=
  before0_1_of m (dats m 0 c) (A_eq m c 1) (after_noise m c) t d

theorem inv_here (c : Dev nD) (t : Fin cfg0.N) : (dats m 0 c).Φ t.castSucc = Inv m c t.val := by
  dsimp only [dats]; rfl
theorem inv_next (c : Dev nD) (t : Fin cfg0.N) : (dats m 0 c).Φ t.succ = Inv m c (t.val + 1) := by
  dsimp only [dats]; rfl

theorem leaves_logits (c : Dev nD) (t : Fin cfg0.N) :
    ((dats m 0 c).leavesExact 0 t : sProp 𝕄) = owns (c : Thread nD τ) (bufLogits t) fullShare (iblk m c 0 t) := by
  unfold Dat.leavesExact; rw [live_logits t, after_logits]
theorem leaves_noise (c : Dev nD) (t : Fin cfg0.N) :
    ((dats m 0 c).leavesExact 1 t : sProp 𝕄) = owns (c : Thread nD τ) (bufNoise t) fullShare (iblk m c 1 t) := by
  unfold Dat.leavesExact; rw [live_noise t, after_noise]
theorem leaves_result_idle (c : Dev nD) (t : Fin cfg0.N) (ht : t.val < 10) :
    ((dats m 0 c).leavesExact 2 t : sProp 𝕄)
      = iprop(∃ d, owns (c : Thread nD τ) (bufResult t) fullShare ((dats m 0 c).before 2 t d)) :=
  (dats m 0 c).leavesExact_idle 2 t ((idle_result t).trans (decide_eq_true ht))
    ((flush_result t).trans (decide_eq_false (by omega)))
theorem leaves_result (c : Dev nD) (t : Fin cfg0.N) (ht : ¬t.val < 10) :
    ((dats m 0 c).leavesExact 2 t : sProp 𝕄)
      = owns (c : Thread nD τ) (bufResult t) fullShare (k0_pay6 (weightsOf m c (t.val % 10)) (sumTo m c 9)) := by
  unfold Dat.leavesExact; rw [(idle_result t).trans (decide_eq_false ht), after_result]

/-- What the body is handed at a point, -/
def handed (c : Dev nD) (t : Fin cfg0.N) : sProp 𝕄 :=
  iprop((dats m 0 c).Φ t.castSucc ∗ (dats m 0 c).owesAt () t.castSucc
    ∗ (∃ d, owns (c : Thread nD τ) (bufLogits t) fullShare ((dats m 0 c).before 0 t d))
    ∗ (∃ d, owns (c : Thread nD τ) (bufNoise t) fullShare ((dats m 0 c).before 1 t d))
    ∗ (∃ d, owns (c : Thread nD τ) (bufResult t) fullShare ((dats m 0 c).before 2 t d)))

/-- and what it leaves. -/
def left (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

theorem inv_pos (c : Dev nD) (n : ℕ) (h : n ≠ 0) :
    Inv m c n = iprop(iprop((∃ d, ⌜Held m c (min n 10) d⌝ ∗ owns (c : Thread nD τ) weights fullShare d)
      ∗ owns (c : Thread nD τ) total fullShare (sumTo m c (min (n - 1) 9))) ∗ (∃ r, prngReg c r)) := by
  cases n with
  | zero => exact absurd rfl h
  | succ n => rfl

theorem sumTo_pos (c : Dev nD) (n : ℕ) (h : n ≠ 0) :
    sumTo m c n = k0_pay5 (noiseOf m c n) (logitsOf m c n) (sumTo m c (n - 1)) := by
  cases n with
  | zero => exact absurd rfl h
  | succ n => rfl

set_option maxHeartbeats 1600000 in
/-- The body keeps the invariant at every point. -/
theorem keeps (c : Dev nD) (t : Fin cfg0.N) :
    handed m c t ⊢ wp frame (wpE (defs₀ (F := F)) Variants.none c none) Set.univ (bodyAt0 t) (fun _ => left m c t) := by
  have hN : t.val < 20 := lt_of_lt_of_eq t.isLt points
  have hx : iblk m c 0 t = logitsOf m c t.val := by unfold logitsOf; rw [pt_of_val]
  have hu : iblk m c 1 t = noiseOf m c t.val := by unfold noiseOf; rw [pt_of_val]
  unfold handed left bodyAt0
  simp only [before_logits, before_noise]
  rw [show (dats m 0 c).owesAt () t.succ = (dats m 0 c).owesAt () t.castSucc from rfl, inv_here, inv_next,
    leaves_logits, leaves_noise, inv_pos m c (t.val + 1) (Nat.succ_ne_zero _), hx, hu, Nat.add_sub_cancel]
  by_cases h : t.val < 10
  · rw [leaves_result_idle m c t h, Nat.min_eq_left (show t.val + 1 ≤ 10 by omega), Nat.min_eq_left (show t.val ≤ 9 by omega)]
    have hc : (grid0.coords t 1).val = t.val := (chunk_val t).trans (Nat.mod_eq_of_lt h)
    by_cases hz : t.val = 0
    · rw [show Inv m c t.val = Pipeline.ΦA spec0 c by rw [hz]; rfl, scratch_at_launch]
      iintro ⟨⟨⟨⟨%e0, HS0⟩, ⟨%e1, HS1⟩⟩, Hg⟩, Ho, ⟨%d0, H0⟩, ⟨%d1, H1⟩, H2⟩
      iapply (run_starts c (grid0.coords t) _ _ _ _ _ _ _ _ _ _ ((accumulates_iff t).mpr h)
        ((starts_iff t).mpr (by omega)) (fun g => by have := (continues_iff t).mp g; omega)
        (fun g => by have := (normalizes_iff t).mp g; omega) (logitsOf m c t.val) (noiseOf m c t.val) e0 e1 Set.univ _)
      isplitl [H0]; · iexact H0
      isplitl [H1]; · iexact H1
      isplitl [HS0]; · iexact HS0
      isplitl [HS1]; · iexact HS1
      iintro ⟨H0, H1, HS0, HS1⟩
      isplitl [HS0 HS1 Hg]
      · isplitl [HS0 HS1]
        · isplitl [HS0]
          · iexists _; isplitr; swap; · iexact HS0
            ipureintro
            exact held_putChunk m c (grid0.coords t) t.val hc e0 (by rw [hz]; exact held_none m c e0)
          rw [show sumTo m c t.val = k0_pay4 (noiseOf m c t.val) (logitsOf m c t.val) by rw [hz]; rfl]
          iexact HS1
        iexact Hg
      isplitl [Ho]; · iexact Ho
      isplitl [H0]; · iexact H0
      isplitl [H1]; · iexact H1
      iexact H2
    · rw [inv_pos m c t.val hz, Nat.min_eq_left (show t.val ≤ 10 by omega), Nat.min_eq_left (show t.val - 1 ≤ 9 by omega)]
      iintro ⟨⟨⟨⟨%e0, %he0, HS0⟩, HS1⟩, Hg⟩, Ho, ⟨%d0, H0⟩, ⟨%d1, H1⟩, H2⟩
      iapply (run_continues c (grid0.coords t) _ _ _ _ _ _ _ _ _ _ ((accumulates_iff t).mpr h)
        (fun g => by have := (starts_iff t).mp g; omega) ((continues_iff t).mpr (by omega))
        (fun g => by have := (normalizes_iff t).mp g; omega) (logitsOf m c t.val) (noiseOf m c t.val) e0 _ Set.univ _)
      isplitl [H0]; · iexact H0
      isplitl [H1]; · iexact H1
      isplitl [HS0]; · iexact HS0
      isplitl [HS1]; · iexact HS1
      iintro ⟨H0, H1, HS0, HS1⟩
      isplitl [HS0 HS1 Hg]
      · isplitl [HS0 HS1]
        · isplitl [HS0]
          · iexists _; isplitr; swap; · iexact HS0
            ipureintro
            exact held_putChunk m c (grid0.coords t) t.val hc e0 he0
          rw [sumTo_pos m c t.val hz]
          iexact HS1
        iexact Hg
      isplitl [Ho]; · iexact Ho
      isplitl [H0]; · iexact H0
      isplitl [H1]; · iexact H1
      iexact H2
  · rw [leaves_result m c t h, inv_pos m c t.val (by omega), Nat.min_eq_right (show 10 ≤ t.val + 1 by omega),
      Nat.min_eq_right (show 9 ≤ t.val by omega), Nat.min_eq_right (show 10 ≤ t.val by omega),
      Nat.min_eq_right (show 9 ≤ t.val - 1 by omega)]
    have h4 : Normalizes (grid0.coords t) := (normalizes_iff t).mpr (by omega)
    iintro ⟨⟨⟨⟨%e0, %he0, HS0⟩, HS1⟩, Hg⟩, Ho, ⟨%d0, H0⟩, ⟨%d1, H1⟩, ⟨%d2, H2⟩⟩
    iapply (run_normalizes c (grid0.coords t) _ _ _ _ _ _ _ _ _ _ (fun g => h ((accumulates_iff t).mp g)) h4
      _ e0 _ Set.univ _)
    isplitl [H2]; · iexact H2
    isplitl [HS0]; · iexact HS0
    isplitl [HS1]; · iexact HS1
    iintro ⟨H2, HS0, HS1⟩
    isplitl [HS0 HS1 Hg]
    · isplitl [HS0 HS1]
      · isplitl [HS0]
        · iexists _; isplitr; swap; · iexact HS0
          ipureintro; exact he0
        iexact HS1
      iexact Hg
    isplitl [Ho]; · iexact Ho
    isplitl [H0]; · iexact H0
    isplitl [H1]; · iexact H1
    rw [← chunk_val t, ← chunkOf_held m c (grid0.coords t) h4 e0 he0]
    iexact H2

/-! ## The launch -/

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (keeps m c t) rfl .rfl fun _ => .rfl

theorem starts_at_launch (c : Dev nD) : Pipeline.ΦA spec0 c ⊢ (dats m 0 c).Φ 0 := by
  rw [show (dats m 0 c).Φ 0 = Pipeline.ΦA spec0 c from rfl]

theorem ends_as_launched (c : Dev nD) : (dats m 0 c).Φ (Fin.last cfg0.N) ⊢ Pipeline.ΦA spec0 c := by
  rw [show (dats m 0 c).Φ (Fin.last cfg0.N) = Inv m c (Fin.last cfg0.N).val from rfl, Fin.val_last,
    inv_pos m c cfg0.N (by rw [points]; decide), scratch_at_launch]
  iintro ⟨⟨⟨%d, %hd, HS0⟩, HS1⟩, Hg⟩
  isplitl [HS0 HS1]
  · isplitl [HS0]
    · iexists _; iexact HS0
    iexists _; iexact HS1
  iexact Hg

set_option backward.isDefEq.respectTransparency.types false in
set_option maxHeartbeats 800000 in
/-- Every run ends with each window's array at what the points wrote back, the buffers of the host lines at their
    results, and every semaphore at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := starts_at_launch m) (hout := ends_as_launched m)

end Cert.KernelIdeal.Hand

end
-- ==== Proof.Output.lean ====
/-
  What the run leaves in the result array.

  The host transposes both arguments before the launch, so a chunk of the logits or of the noise is a range of columns
  of the argument, read with rows and columns exchanged. The points of the second phase write their chunks one after
  the other into the launch's output, and the host transposes that back: entry (i, j) of the result is what chunk
  j / 10000 was given at row j % 10000 and column i.
-/
module

public import proofs.«01_k».proof.Proof.Launch
public import Idealize.ShloMosaic.Lib.Pipeline.Value
public import Idealize.ShloMosaic.Lib.Pointwise.Index
public import Idealize.ShloMosaic.Lib.StableHlo.Run

@[expose] public section

set_option maxRecDepth 16384

noncomputable section

namespace Cert.KernelIdeal.Hand

open Cert.KernelIdeal.Gen
open Idealize.ShloMosaic Idealize.ShloMosaic.TcCoe
open Idealize.SL.Sem
open Idealize.ShloMosaic.Pipeline (Dat Cfg Window)

variable {F : FTy → Type} [FloatOps F]
variable (m : (ℓ : Loc nD τ sig) → Buf (Elt F) ℓ) (ρ : Dev nD → PrngReg)

/-- The logits, as the program is given them. -/
def logits (c : Dev nD) : Vec F S128x100000 .f32 := m ((c : Thread nD τ).loc main_arg0)
/-- The noise, as the program is given it. -/
def noise (c : Dev nD) : Vec F S128x100000 .f32 := m ((c : Thread nD τ).loc main_arg1)

/-! ## The arguments, chunk by chunk -/

/-- The launch finds the logits transposed, -/
theorem entry_logits (c : Dev nD) :
    V m c main_call0_v0 = transpose S100000x128 [1, 0] (logits m c) transposes_S128x100000_S100000x128_1_0 := by
  rfl
/-- and the noise. -/
theorem entry_noise (c : Dev nD) :
    V m c main_call0_v1 = transpose S100000x128 [1, 0] (noise m c) transposes_S128x100000_S100000x128_1_0 := by
  rfl

/-- An entry of a transposed argument. -/
theorem turned_apply {α : Type} (x : S128x100000.Idx → α) (h : S128x100000.Transposes [1, 0] S100000x128)
    (y : S100000x128.Idx) (i : Fin 128) (j : Fin 100000) (hj : (y 0).val = j.val) (hi : (y 1).val = i.val) :
    transpose S100000x128 [1, 0] x h y = x (ix2 i j) :=
  transpose_apply _ x h y (ix2 i j) (Fin.forall_fin_two.mpr ⟨hj.symm, hi.symm⟩)

/-- An entry of the output turned back. -/
theorem turned_back_apply {α : Type} (x : S100000x128.Idx → α) (h : S100000x128.Transposes [1, 0] S128x100000)
    (i : Fin 128) (j : Fin 100000) : transpose S128x100000 [1, 0] x h (ix2 i j) = x (ix2 j i) :=
  transpose_apply _ x h (ix2 i j) (ix2 j i) (Fin.forall_fin_two.mpr ⟨rfl, rfl⟩)

/-- In the first phase the two inputs' block is the point's chunk. -/
theorem block_in : ∀ t : Fin cfg0.N, t.val < 10 →
    (win0_0.index t 0 = t.val ∧ win0_0.index t 1 = 0) ∧ (win0_1.index t 0 = t.val ∧ win0_1.index t 1 = 0) :=
  (by decide +kernel : ∀ t : Fin grid0.N, t.val < 10 →
    (win0_0.index t 0 = t.val ∧ win0_0.index t 1 = 0) ∧ (win0_1.index t 0 = t.val ∧ win0_1.index t 1 = 0))

/-- In the second phase the result's block is the point's chunk. -/
theorem block_out : ∀ t : Fin cfg0.N, 10 ≤ t.val → win0_2.index t 0 = t.val % 10 ∧ win0_2.index t 1 = 0 :=
  (by decide +kernel : ∀ t : Fin grid0.N, 10 ≤ t.val → win0_2.index t 0 = t.val % 10 ∧ win0_2.index t 1 = 0)

/-- Row `r` of chunk `k` is column `10000 k + r` of the argument. -/
def col (k : ℕ) (hk : k < 10) (r : Fin 10000) : Fin 100000 := ⟨10000 * k + r.val, by have := r.isLt; omega⟩

theorem logitsOf_apply (c : Dev nD) (k : ℕ) (hk : k < 10) (r : Fin 10000) (i : Fin 128) :
    logitsOf m c k (ix2 r i) = logits m c (ix2 i (col k hk r)) := by
  have hv := pt_val k (by omega)
  have hb := (block_in (pt k) (by omega)).1
  unfold logitsOf iblk
  rw [View.read_apply]
  show V m c main_call0_v0 _ = _
  rw [entry_logits]
  refine turned_apply _ _ _ i (col k hk r) ?_ ?_
  · show win0_0.index (pt k) 0 * 10000 + 1 * r.val = 10000 * k + r.val
    rw [hb.1, hv]; omega
  · show win0_0.index (pt k) 1 * 128 + 1 * i.val = i.val
    rw [hb.2]; omega

theorem noiseOf_apply (c : Dev nD) (k : ℕ) (hk : k < 10) (r : Fin 10000) (i : Fin 128) :
    noiseOf m c k (ix2 r i) = noise m c (ix2 i (col k hk r)) := by
  have hv := pt_val k (by omega)
  have hb := (block_in (pt k) (by omega)).2
  unfold noiseOf iblk
  rw [View.read_apply]
  show V m c main_call0_v1 _ = _
  rw [entry_noise]
  refine turned_apply _ _ _ i (col k hk r) ?_ ?_
  · show win0_1.index (pt k) 0 * 10000 + 1 * r.val = 10000 * k + r.val
    rw [hb.1, hv]; omega
  · show win0_1.index (pt k) 1 * 128 + 1 * i.val = i.val
    rw [hb.2]; omega

/-! ## The launch's output -/

/-- What the second phase leaves for chunk `k`. -/
def scaled (c : Dev nD) (k : ℕ) : Vec F S10000x128 .f32 := k0_pay6 (weightsOf m c k) (sumTo m c 9)

/-- The row within its chunk. -/
def rowIn (j : Fin 100000) : Fin 10000 := ⟨j.val % 10000, Nat.mod_lt _ (by decide)⟩

/-- The launch's output, whole: row `j` is row `j % 10000` of chunk `j / 10000`. -/
def output (c : Dev nD) : Vec F S100000x128 .f32 := fun y => scaled m c ((y 0).val / 10000) (ix2 (rowIn (y 0)) (y 1))

/-- A point of the second phase writes back its block of it. -/
theorem output_block (c : Dev nD) (t : Fin cfg0.N) (hf : (cfg0.win 2).flush t = true) :
    (dats m 0 c).flushed 2 t = ((cfg0.win 2).blk t).view.read (Elt F) (output m c) := by
  have ht : 10 ≤ t.val := of_decide_eq_true ((flush_result t).symm.trans hf)
  have hb := block_out t ht
  show (cfg0.win 2).cut (grid0.coords t) ((dats m 0 c).after 2 t) = _
  rw [after_result]
  funext z
  rw [View.read_apply]
  have h0 : (z (0 : Fin 2)).val < 10000 := (z (0 : Fin 2)).isLt
  have e0 : ((((cfg0.win 2).blk t).view.emb z : S100000x128.Idx) (0 : Fin 2)).val = 10000 * (t.val % 10) + (z (0 : Fin 2)).val := by
    show win0_2.index t 0 * 10000 + 1 * (z (0 : Fin 2)).val = _
    rw [hb.1]; omega
  have e1 : ((((cfg0.win 2).blk t).view.emb z : S100000x128.Idx) (1 : Fin 2)).val = (z (1 : Fin 2)).val := by
    show win0_2.index t 1 * 128 + 1 * (z (1 : Fin 2)).val = _
    rw [hb.2]; omega
  show scaled m c (t.val % 10) _ = output m c (((cfg0.win 2).blk t).view.emb z)
  unfold output
  rw [show ((((cfg0.win 2).blk t).view.emb z : S100000x128.Idx) (0 : Fin 2)).val / 10000 = t.val % 10 by rw [e0]; omega]
  refine congrArg (scaled m c (t.val % 10)) (Shape.idx_ext₂ ?_ ?_)
  · show (z (0 : Fin 2)).val = ((((cfg0.win 2).blk t).view.emb z : S100000x128.Idx) (0 : Fin 2)).val % 10000
    rw [e0]; omega
  · exact e1.symm

/-- The points of the second phase write every row. -/
theorem output_covered (i : S100000x128.Idx) :
    ∃ t : Fin cfg0.N, (cfg0.win 2).flush t = true ∧ i ∈ ((cfg0.win 2).blk t).view.set := by
  have h0 : (i (0 : Fin 2)).val < 100000 := (i (0 : Fin 2)).isLt
  have h1 : (i (1 : Fin 2)).val < 128 := (i (1 : Fin 2)).isLt
  have hv := pt_val (10 + (i (0 : Fin 2)).val / 10000) (by omega)
  have hb := block_out (pt (10 + (i (0 : Fin 2)).val / 10000)) (by omega)
  refine ⟨pt (10 + (i (0 : Fin 2)).val / 10000), (flush_result _).trans (decide_eq_true (by omega)), ?_⟩
  refine Finset.mem_of_subset (View.set_slice_whole main_call0_v2 (win0_2.rect (pt (10 + (i (0 : Fin 2)).val / 10000)))).symm.subset ?_
  rw [Rect.mem_set_unit]
  refine Fin.forall_fin_two.mpr ⟨?_, ?_⟩
  · show win0_2.index _ 0 * 10000 ≤ (i (0 : Fin 2)).val ∧ (i (0 : Fin 2)).val < win0_2.index _ 0 * 10000 + 10000
    rw [hb.1, hv]; omega
  · show win0_2.index _ 1 * 128 ≤ (i (1 : Fin 2)).val ∧ (i (1 : Fin 2)).val < win0_2.index _ 1 * 128 + 128
    rw [hb.2]; omega

theorem final_output (c : Dev nD) : (dats m 0 c).arrAt 2 cfg0.N = output m c :=
  (dats m 0 c).arrAt_eq_of_cover 2 (output m c) (output_block m c) output_covered

/-! ## The result -/

/-- The result: the launch's output transposed. -/
def result (c : Dev nD) : Vec F S128x100000 .f32 :=
  transpose S128x100000 [1, 0] (output m c) transposes_S100000x128_S128x100000_1_0

theorem result_apply (c : Dev nD) (i : Fin 128) (j : Fin 100000) :
    result m c (ix2 i j) = scaled m c (j.val / 10000) (ix2 (rowIn j) i) :=
  turned_back_apply _ _ i j

/-- The host's last line leaves it in the result array. -/
theorem tail_result (c : Dev nD) :
    Pipeline.afterTail₀ cfgs (dats m) 0 (V0 m) [hostOps1] c main_v0 = result m c := by
  unfold result
  rw [← final_output m c,
    ← Pipeline.withArrays_arr spec0 launch0.win.arr_inj c (V0 m c) (fun w => (dats m 0 c).arrAt w cfg0.N) 2]
  rfl

/-- Every run ends with the result array at `result`, the arguments as they were and every semaphore at zero. -/
theorem run : θ_run defs (onTc (τ := τ) (main (F := F))) ⟨m, fun _ => 0, ρ⟩ (fun r => (∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1))
      ∧ r.2.sem = fun _ => 0) :=
  (θ_run defs _ _).mono (fun _ h => ⟨fun c =>
    ⟨((h.1 c).2 main_v0 (Pipeline.mem_restRefs_of main_v0 (by decide) (by decide))).trans (tail_result m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c)⟩, h.2⟩)
    (run_main m ρ)

end Cert.KernelIdeal.Hand

end
-- ==== Proof.Printed.lean ====
/-
  The kernel as printed and the kernel as read over the extended reals are one text, and `Output`'s run holds at any
  number format. So the printed kernel's run is that run at the machine's formats: the two tables of functions and the
  two main programs are shown equal, and the run is carried across.
-/
module

public import proofs.«01_k».proof.Defs
public import proofs.«01_k».proof.Proof.Gen.Kernel
public import proofs.«01_k».proof.Proof.Gen.KernelIdeal
public import proofs.«01_k».proof.Proof.Output

@[expose] public section

set_option maxRecDepth 16384

noncomputable section

namespace Cert.Printed

open Idealize.ShloMosaic Idealize.SL.Sem

/-- The kernel's function, called at the same point on the same blocks, is the same program. -/
theorem same_body : @Cert.Kernel.defs₀ Bits _ Cert.Kernel.Gen.facts = @Cert.KernelIdeal.defs₀ Bits _ Cert.KernelIdeal.Gen.facts := by
  unfold Cert.Kernel.defs₀ Cert.KernelIdeal.defs₀
  congr 1
  funext l a
  match l, a with
  | 0, (t, s) => rfl

/-- The whole table of functions. -/
theorem same_defs : @Cert.Kernel.defs Bits _ Cert.Kernel.Gen.facts = @Cert.KernelIdeal.defs Bits _ Cert.KernelIdeal.Gen.facts :=
  congrArg (Pipeline.defs (Cert.KernelIdeal.pcfgs (F := Bits))) same_body

/-- The main program. -/
theorem same_main : Cert.Kernel.main (F := Bits) = Cert.KernelIdeal.main (F := Bits) :=
  funext fun _ => rfl

/-- The run at the machine's formats keeps the arguments and ends with every semaphore at zero. -/
theorem frame_bits (m : (ℓ : Loc Cert.KernelIdeal.nD Cert.KernelIdeal.τ Cert.KernelIdeal.sig) → Buf (Elt Bits) ℓ)
    (g : Dev Cert.KernelIdeal.nD → PrngReg) :
    θ_run (Cert.KernelIdeal.defs (F := Bits)) (onTc (τ := Cert.KernelIdeal.τ) (Cert.KernelIdeal.main (F := Bits)))
      ⟨m, fun _ => 0, g⟩ (fun r => (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
        ∧ r.2.sem = fun _ => 0) :=
  (θ_run Cert.KernelIdeal.defs _ _).mono (fun _ h => ⟨fun c => (h.1 c).2, h.2⟩) (Cert.KernelIdeal.Hand.run m g)

/-- So does the printed kernel. -/
theorem frame : Cert.quiescent_Kernel (hKernel := Cert.Kernel.Gen.facts) := fun m g _ => by
  rw [same_defs, same_main]
  exact frame_bits m g

end Cert.Printed

end
-- ==== Proof.Softmax.lean ====
/-
  The mathematics, on extended reals.

  With logits `l` finite and noise `u` strictly between 0 and 1, the weight `exp l / (0 - log u)` is a positive real,
  and it is the exponential of the score `l - log (-log u)`. So weights over their sum, and the softmax of the scores
  shifted by any real, are the same numbers.
-/
module

public import Idealize.ShloMosaic.PureOps.Ideal
public import Idealize.ShloMosaic.Lib.IdealHost

@[expose] public section

noncomputable section

namespace Cert.Softmax

open Idealize.ShloMosaic

/-- The weight the kernel gives an entry. -/
def weight (l u : EReal) : EReal := Ideal.div (Ideal.exp l) (0 - Ideal.log u)

/-- The score the reference gives it. -/
def score (l u : EReal) : EReal := Ideal.div (l + -Ideal.log (-Ideal.log u)) 1

/-- The score as a real number. -/
def realScore (l u : ℝ) : ℝ := l - Real.log (-Real.log u)

theorem neg_log_pos {u : ℝ} (h0 : 0 < u) (h1 : u < 1) : 0 < -Real.log u := by
  have := Real.log_neg h0 h1
  linarith

/-- The weight is the exponential of the score. -/
theorem weight_eq (l : ℝ) {u : ℝ} (h0 : 0 < u) (h1 : u < 1) :
    weight (l : EReal) (u : EReal) = ((Real.exp (realScore l u) : ℝ) : EReal) := by
  have ht := neg_log_pos h0 h1
  unfold weight realScore
  rw [Ideal.exp_coe, Ideal.log_coe, if_neg (not_le.mpr h0), zero_sub, ← EReal.coe_neg, Ideal.div_coe ht.ne',
    ← EReal.coe_mul, Real.exp_sub, Real.exp_log ht, mul_one_div]

/-- The reference's score is that real. -/
theorem score_eq (l : ℝ) {u : ℝ} (h0 : 0 < u) (h1 : u < 1) :
    score (l : EReal) (u : EReal) = ((realScore l u : ℝ) : EReal) := by
  have ht := neg_log_pos h0 h1
  unfold score realScore
  rw [Ideal.log_coe, if_neg (not_le.mpr h0), ← EReal.coe_neg, Ideal.log_coe, if_neg (not_le.mpr ht), ← EReal.coe_neg,
    ← EReal.coe_add, ← EReal.coe_one, Ideal.div_coe one_ne_zero, ← EReal.coe_mul, sub_eq_add_neg, one_div, inv_one, mul_one]

/-- The largest of finitely many reals, taken from the bottom, is a real when there is one. -/
theorem fold_max_real {n : ℕ} (hn : 0 < n) (f : Fin n → ℝ) :
    ∃ M : ℝ, (Finset.univ : Finset (Fin n)).fold max (⊥ : EReal) (fun k => ((f k : ℝ) : EReal)) = (M : EReal) := by
  have key : ∀ s : Finset (Fin n), s.fold max (⊥ : EReal) (fun k => ((f k : ℝ) : EReal)) = ⊥ ∧ s = ∅
      ∨ ∃ M : ℝ, s.fold max (⊥ : EReal) (fun k => ((f k : ℝ) : EReal)) = (M : EReal) := by
    intro s
    induction s using Finset.induction_on with
    | empty => exact .inl ⟨Finset.fold_empty, rfl⟩
    | insert a s ha ih =>
      right
      rw [Finset.fold_insert ha]
      rcases ih with ⟨h, -⟩ | ⟨M, h⟩
      · exact ⟨f a, by rw [h, max_bot_right]⟩
      · exact ⟨max (f a) M, by rw [h]; exact (EReal.coe_strictMono.monotone.map_max).symm⟩
  rcases key Finset.univ with ⟨-, h⟩ | h
  · exact absurd (Finset.mem_univ (⟨0, hn⟩ : Fin n)) (by rw [h]; exact Finset.notMem_empty _)
  · exact h

/-- A sum of reals, taken among the extended reals. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A weight over the sum of the weights is the softmax of the scores, whatever real they are shifted by. -/
theorem weights_are_softmax {n : ℕ} (l u : Fin n → ℝ) (h0 : ∀ k, 0 < u k) (h1 : ∀ k, u k < 1) (M : ℝ) (j : Fin n) :
    weight (l j) (u j) * Ideal.div 1 (∑ k, weight (l k) (u k))
      = Ideal.div (Ideal.exp (score (l j) (u j) - M)) (0 + ∑ k, Ideal.exp (score (l k) (u k) - M)) := by
  have hs : 0 < ∑ k, Real.exp (realScore (l k) (u k)) := Finset.sum_pos (fun _ _ => Real.exp_pos _) ⟨j, Finset.mem_univ j⟩
  have hs' : 0 < ∑ k, Real.exp (realScore (l k) (u k) - M) := Finset.sum_pos (fun _ _ => Real.exp_pos _) ⟨j, Finset.mem_univ j⟩
  have e : ∑ k, Real.exp (realScore (l k) (u k) - M) = (∑ k, Real.exp (realScore (l k) (u k))) / Real.exp M := by
    rw [Finset.sum_div]; exact Finset.sum_congr rfl fun k _ => Real.exp_sub _ _
  have hw : ∀ k, weight (l k) (u k) = ((Real.exp (realScore (l k) (u k)) : ℝ) : EReal) := fun k => weight_eq _ (h0 k) (h1 k)
  have hg : ∀ k, Ideal.exp (score (l k) (u k) - M) = ((Real.exp (realScore (l k) (u k) - M) : ℝ) : EReal) := fun k => by
    rw [score_eq _ (h0 k) (h1 k), ← EReal.coe_sub, Ideal.exp_coe]
  simp only [hw, hg]
  rw [coe_sum, coe_sum, zero_add, Ideal.div_coe hs.ne', Ideal.div_coe hs'.ne', one_mul, ← EReal.coe_mul, ← EReal.coe_mul, e,
    Real.exp_sub]
  have hM := (Real.exp_pos M).ne'
  congr 1
  field_simp

end Cert.Softmax

end
-- ==== Proof.Weights.lean ====
/-
  The kernel's result over the extended reals.

  A chunk's weights are `exp l / (0 - log u)` entry by entry, and storing them in a narrower format changes nothing
  there. The running sum adds, chunk after chunk, the sum down each column, so after the last chunk it is the sum along
  the whole row of the argument. The result is the weight times one over that sum.
-/
module

public import proofs.«01_k».proof.Proof.Output
public import proofs.«01_k».proof.Proof.Softmax
public import Idealize.ShloMosaic.Lib.Pointwise

@[expose] public section

set_option maxRecDepth 16384

noncomputable section

namespace Cert.KernelIdeal.Hand

open Cert.KernelIdeal.Gen Cert.Softmax
open Idealize.ShloMosaic Idealize.ShloMosaic.TcCoe
open Idealize.SL.Sem

variable (m : (ℓ : Loc nD τ sig) → Buf (Elt Ideal) ℓ)

/-! ## One chunk -/

/-- A chunk's weights before they are stored, -/
theorem pay1_apply (u l : Vec Ideal S10000x128 .f32) (z : S10000x128.Idx) :
    k0_pay1 (F := Ideal) u l z = weight (l z) (u z) := by
  unfold k0_pay1 weight
  pointwise

/-- and stored. -/
theorem pay2_apply (u l : Vec Ideal S10000x128 .f32) (z : S10000x128.Idx) :
    k0_pay2 (F := Ideal) u l z = weight (l z) (u z) := by
  rw [← pay1_apply]
  unfold k0_pay2
  pointwise

/-- A chunk's column sums. -/
theorem pay3_apply (u l : Vec Ideal S10000x128 .f32) (i : Fin 128) :
    k0_pay3 (F := Ideal) u l (ix2 0 i) = ∑ r : Fin 10000, weight (l (ix2 r i)) (u (ix2 r i)) := by
  simp only [← pay1_apply]
  unfold k0_pay3
  generalize k0_pay1 (F := Ideal) u l = x
  pointwise

theorem pay4_apply (u l : Vec Ideal S10000x128 .f32) (i : Fin 128) :
    k0_pay4 (F := Ideal) u l (ix2 0 i) = ∑ r : Fin 10000, weight (l (ix2 r i)) (u (ix2 r i)) := by
  rw [← pay3_apply]
  unfold k0_pay4
  pointwise

theorem pay5_apply (u l : Vec Ideal S10000x128 .f32) (s : Vec Ideal S1x128 .f32) (i : Fin 128) :
    k0_pay5 (F := Ideal) u l s (ix2 0 i) = s (ix2 0 i) + ∑ r : Fin 10000, weight (l (ix2 r i)) (u (ix2 r i)) := by
  rw [← pay3_apply]
  unfold k0_pay5
  pointwise

theorem pay6_apply (w : Vec Ideal S10000x128 .bf16) (s : Vec Ideal S1x128 .f32) (r : Fin 10000) (i : Fin 128) :
    k0_pay6 (F := Ideal) w s (ix2 r i) = w (ix2 r i) * Ideal.div 1 (s (ix2 0 i)) := by
  unfold k0_pay6
  pointwise

/-! ## The whole row -/

/-- The weight of an entry of the arguments. -/
def entry (c : Dev nD) (i : Fin 128) (j : Fin 100000) : EReal := weight (logits m c (ix2 i j)) (noise m c (ix2 i j))

theorem weightsOf_apply (c : Dev nD) (k : ℕ) (hk : k < 10) (r : Fin 10000) (i : Fin 128) :
    weightsOf m c k (ix2 r i) = entry m c i (col k hk r) := by
  unfold weightsOf entry
  rw [pay2_apply, logitsOf_apply m c k hk, noiseOf_apply m c k hk]

/-- The running sum after chunk `k`. -/
theorem sumTo_apply (c : Dev nD) (i : Fin 128) : ∀ (k : ℕ) (hk : k < 10),
    sumTo m c k (ix2 0 i) = ∑ q : Fin (k + 1), ∑ r : Fin 10000, entry m c i (col q.val (by omega) r)
  | 0, _ => by
    rw [Fin.sum_univ_one]
    show k0_pay4 (F := Ideal) _ _ _ = _
    rw [pay4_apply]
    refine Finset.sum_congr rfl fun r _ => ?_
    rw [logitsOf_apply m c 0 (by omega), noiseOf_apply m c 0 (by omega)]
    rfl
  | k + 1, hk => by
    rw [Fin.sum_univ_castSucc]
    show k0_pay5 (F := Ideal) _ _ _ _ = _
    rw [pay5_apply, sumTo_apply c i k (by omega)]
    refine congrArg₂ (· + ·) rfl (Finset.sum_congr rfl fun r _ => ?_)
    rw [logitsOf_apply m c (k + 1) hk, noiseOf_apply m c (k + 1) hk]
    rfl

/-- Ten chunks of ten thousand are the whole row. -/
theorem sum_chunks (f : Fin 100000 → EReal) :
    ∑ q : Fin 10, ∑ r : Fin 10000, f (col q.val q.isLt r) = ∑ j, f j := by
  rw [← Fintype.sum_prod_type' (f := fun (q : Fin 10) (r : Fin 10000) => f (col q.val q.isLt r))]
  refine Fintype.sum_equiv (finProdFinEquiv.trans (finCongr (by norm_num))) _ _ fun p => congrArg f (Fin.ext ?_)
  show 10000 * p.1.val + p.2.val = p.2.val + 10000 * p.1.val
  omega

theorem sum_apply (c : Dev nD) (i : Fin 128) : sumTo m c 9 (ix2 0 i) = ∑ j, entry m c i j :=
  (sumTo_apply m c i 9 (by omega)).trans (sum_chunks (entry m c i))

/-- An entry of the result: its weight times one over the sum of the row's weights. -/
theorem result_entry (c : Dev nD) (i : Fin 128) (j : Fin 100000) :
    result m c (ix2 i j) = entry m c i j * Ideal.div 1 (∑ k, entry m c i k) := by
  have hj := j.isLt
  rw [result_apply]
  unfold scaled
  rw [pay6_apply, sum_apply, weightsOf_apply m c (j.val / 10000) (by omega)]
  rw [show col (j.val / 10000) (by omega) (rowIn j) = j from Fin.ext (by show 10000 * (j.val / 10000) + j.val % 10000 = j.val; omega)]

end Cert.KernelIdeal.Hand

end
-- ==== Proof.Reference.lean ====
/-
  The reference's result over the extended reals.

  An entry is the exponential of its score less the row's largest score, over the sum of those exponentials along the
  row. The largest score is a fold of the row from minus infinity.
-/
module

public import proofs.«01_k».proof.Proof.Gen.ReferenceIdeal.Run
public import proofs.«01_k».proof.Proof.Gen.ReferenceIdeal.Read
public import proofs.«01_k».proof.Proof.Softmax
public import Idealize.ShloMosaic.Lib.Pointwise

@[expose] public section

set_option maxRecDepth 16384

noncomputable section

namespace Cert.ReferenceIdeal.Hand

open Cert.ReferenceIdeal Cert.ReferenceIdeal.Gen Cert.ReferenceIdeal.Read Cert.Softmax
open Idealize.ShloMosaic Idealize.ShloMosaic.TcCoe

variable (x0 x1 : Vec Ideal S128x100000 .f32)

/-- The word of minus infinity is the bottom. -/
theorem word_bottom : Ideal.ofBits .f32 0xFF800000#32 = ⊥ := by simp [Ideal.ofBits, Ideal.ieee]

/-- An entry's score. -/
theorem v6_entry (z : S128x100000.Idx) : val_main_v6 (F := Ideal) x0 x1 z = score (x0 z) (x1 z) := by
  rw [val_main_v6_apply, val_main_v5_apply, val_main_cst_apply, val_main_v4_apply, val_main_v3_apply, val_main_v2_apply,
    val_main_v1_apply, val_main_v0_apply]
  show Ideal.div (x0 z + -Ideal.log (-Ideal.log (x1 z))) (Ideal.ofBits .f32 0x3F800000#32) = _
  rw [Ideal.ofBits_one_f32]
  rfl

/-- The largest score of a row. -/
def top (i : Fin 128) : EReal :=
  (Finset.univ : Finset (Fin 100000)).fold max (⊥ : EReal) (fun k => score (x0 (ix2 i k)) (x1 (ix2 i k)))

theorem v7_entry (i : Fin 128) : val_main_v7 (F := Ideal) x0 x1 (ix1 i) = top x0 x1 i := by
  unfold val_main_v7 top
  simp only [← v6_entry]
  generalize val_main_v6 (F := Ideal) x0 x1 = x
  rw [Ideal.maximumf_eq_max, Host.reduce_eq_fold, Shape.ReducesTo.fold_fiber_r2_a1, val_main_cst_0_apply]
  show Finset.fold max (Ideal.ofBits .f32 0xFF800000#32) _ _ = _
  rw [word_bottom]
  rfl

/-- It is shifted by the largest of minus infinity and that. -/
theorem v9_entry (i : Fin 128) : val_main_v9 (F := Ideal) x0 x1 (ix1 i) = top x0 x1 i := by
  rw [val_main_v9_apply, val_main_v8_apply, val_main_cst_1_apply, v7_entry]
  show max (Ideal.ofBits .f32 0xFF800000#32) _ = _
  rw [word_bottom, max_bot_left]

theorem v11_entry (i : Fin 128) (j : Fin 100000) : val_main_v11 (F := Ideal) x0 x1 (ix2 i j) = top x0 x1 i := by
  rw [val_main_v11_apply, val_main_v10_apply, ← v9_entry]
  exact congrArg (val_main_v9 (F := Ideal) x0 x1) (funext fun a => by match a with | ⟨0, _⟩ => rfl)

theorem v13_entry (i : Fin 128) (j : Fin 100000) :
    val_main_v13 (F := Ideal) x0 x1 (ix2 i j) = Ideal.exp (score (x0 (ix2 i j)) (x1 (ix2 i j)) - top x0 x1 i) := by
  rw [val_main_v13_apply, val_main_v12_apply, v11_entry, v6_entry]
  rfl

theorem v14_entry (i : Fin 128) :
    val_main_v14 (F := Ideal) x0 x1 (ix1 i) = 0 + ∑ k, Ideal.exp (score (x0 (ix2 i k)) (x1 (ix2 i k)) - top x0 x1 i) := by
  rw [val_main_v14_apply, val_main_cst_2_apply]
  refine congrArg₂ (· + ·) Ideal.ofBits_zero_f32 (Finset.sum_congr rfl fun k _ => ?_)
  rw [← v13_entry]
  exact congrArg (val_main_v13 (F := Ideal) x0 x1) (funext fun a => by match a with | ⟨0, _⟩ => rfl | ⟨1, _⟩ => rfl)

/-- An entry of the result. -/
theorem result_entry (i : Fin 128) (j : Fin 100000) :
    val_main_v17 (F := Ideal) x0 x1 (ix2 i j)
      = Ideal.div (Ideal.exp (score (x0 (ix2 i j)) (x1 (ix2 i j)) - top x0 x1 i))
          (0 + ∑ k, Ideal.exp (score (x0 (ix2 i k)) (x1 (ix2 i k)) - top x0 x1 i)) := by
  rw [val_main_v17_apply, val_main_v16_apply, val_main_v15_apply, v13_entry, ← v14_entry]
  refine congrArg (Ideal.div _) (congrArg (val_main_v14 (F := Ideal) x0 x1) (funext fun a => ?_))
  match a with
  | ⟨0, _⟩ => rfl

end Cert.ReferenceIdeal.Hand

end
-- ==== Proof.Interior.lean ====
/-
  What the precondition says of the arguments: every logit is a real, and every noise value is a real strictly between
  0 and 1.
-/
module

public import proofs.«01_k».proof.Pre_interior
public import Idealize.ShloMosaic.PureOps.Ideal
public import Idealize.ShloMosaic.Lib.IdealHost
public import Idealize.ShloMosaic.Lib.Pipeline.Value

@[expose] public section

noncomputable section

namespace Cert.Pre_interior.Hand

open Cert.Pre_interior Idealize.ShloMosaic

variable [Facts]

theorem word_below : Ideal.ofBits .f32 0xFF800000#32 = ⊥ := by simp [Ideal.ofBits, Ideal.ieee]

theorem word_above : Ideal.ofBits .f32 0x7F800000#32 = ⊤ := by simp [Ideal.ofBits, Ideal.ieee]

/-- Two truth values that are both true. -/
theorem both {a b : BitVec 1} (h : a &&& b = 1#1) : a = 1#1 ∧ b = 1#1 := by
  revert a b
  decide

theorem of_true {p : Bool} (h : BitVec.ofBool p = 1#1) : p = true := by
  revert p
  decide

/-- One constant over the whole array, read at an entry. -/
theorem everywhere (b : BitVec 32) (z : S128x100000.Idx) :
    broadcastInDim S128x100000 ![] Facts.bcast_S_S128x100000 (constant (F := Ideal) S_ .f32 b) z = Ideal.ofBits .f32 b :=
  rfl

/-- The four comparisons at an entry. -/
theorem bounds {l u : FVec Ideal S128x100000 .f32} (h : fn (F := Ideal) l u = fun _ => 1#1) (z : S128x100000.Idx) :
    (⊥ < (l z : EReal) ∧ (l z : EReal) < ⊤) ∧ 0 < (u z : EReal) ∧ (u z : EReal) < 1 := by
  have e : ((Ideal.cmp .ogt (l z) (Ideal.ofBits .f32 0xFF800000#32) &&& Ideal.cmp .olt (l z) (Ideal.ofBits .f32 0x7F800000#32))
      &&& Ideal.cmp .ogt (u z) (Ideal.ofBits .f32 0x00000000#32)) &&& Ideal.cmp .olt (u z) (Ideal.ofBits .f32 0x3F800000#32) = 1#1 :=
    congrFun h z
  rw [word_below, word_above, Ideal.ofBits_zero_f32, Ideal.ofBits_one_f32] at e
  obtain ⟨e, h4⟩ := both e
  obtain ⟨e, h3⟩ := both e
  obtain ⟨h1, h2⟩ := both e
  exact ⟨⟨of_decide_eq_true (of_true h1), of_decide_eq_true (of_true h2)⟩, of_decide_eq_true (of_true h3),
    of_decide_eq_true (of_true h4)⟩

/-- So a logit is a real, -/
theorem logit_real {l u : FVec Ideal S128x100000 .f32} (h : fn (F := Ideal) l u = fun _ => 1#1) (z : S128x100000.Idx) :
    ∃ a : ℝ, (l z : EReal) = (a : EReal) :=
  ⟨(l z : EReal).toReal, (EReal.coe_toReal (bounds h z).1.2.ne (bounds h z).1.1.ne').symm⟩

/-- and a noise value is a real strictly between 0 and 1. -/
theorem noise_real {l u : FVec Ideal S128x100000 .f32} (h : fn (F := Ideal) l u = fun _ => 1#1) (z : S128x100000.Idx) :
    ∃ a : ℝ, (u z : EReal) = (a : EReal) ∧ 0 < a ∧ a < 1 := by
  obtain ⟨-, h0, h1⟩ := bounds h z
  have e : (u z : EReal) = (((u z : EReal).toReal : ℝ) : EReal) :=
    (EReal.coe_toReal (h1.trans (EReal.coe_lt_top 1)).ne ((EReal.bot_lt_coe 0).trans h0).ne').symm
  refine ⟨_, e, ?_, ?_⟩
  · rw [e] at h0; exact_mod_cast h0
  · rw [e] at h1; exact_mod_cast h1

end Cert.Pre_interior.Hand

end
-- ==== Proof.Equation.lean ====
/-
  The equation: where the precondition holds, what the kernel leaves is what the reference leaves.
-/
module

public import proofs.«01_k».proof.Proof.Weights
public import proofs.«01_k».proof.Proof.Reference
public import proofs.«01_k».proof.Proof.Interior

@[expose] public section

set_option maxRecDepth 16384

noncomputable section

namespace Cert.Equation

open Cert.Softmax Idealize.ShloMosaic Idealize.ShloMosaic.TcCoe
open Cert.KernelIdeal.Hand (logits noise entry result)

variable [Cert.Pre_interior.Facts]

variable (m : (ℓ : Loc Cert.KernelIdeal.nD Cert.KernelIdeal.τ Cert.KernelIdeal.sig) → Buf (Elt Ideal) ℓ)

/-- Entry by entry. -/
theorem same_entry (c : Dev Cert.KernelIdeal.nD)
    (h : Cert.Pre_interior.fn (F := Ideal) (logits m c) (noise m c) = fun _ => 1#1) (i : Fin 128) (j : Fin 100000) :
    result m c (ix2 i j) = Cert.ReferenceIdeal.Read.val_main_v17 (F := Ideal) (logits m c) (noise m c) (ix2 i j) := by
  choose l hl using fun k : Fin 100000 => Cert.Pre_interior.Hand.logit_real h (ix2 i k)
  choose u hu h0 h1 using fun k : Fin 100000 => Cert.Pre_interior.Hand.noise_real h (ix2 i k)
  have hs : ∀ k, score (logits m c (ix2 i k)) (noise m c (ix2 i k)) = score (l k) (u k) := fun k => by rw [hl k, hu k]
  have hw : ∀ k, entry m c i k = weight (l k) (u k) := fun k => by unfold entry; rw [hl k, hu k]
  obtain ⟨M, hM⟩ := fold_max_real (by norm_num) fun k => realScore (l k) (u k)
  have ht : Cert.ReferenceIdeal.Hand.top (logits m c) (noise m c) i = (M : EReal) := by
    rw [← hM]
    unfold Cert.ReferenceIdeal.Hand.top
    exact Finset.fold_congr fun k _ => (hs k).trans (score_eq _ (h0 k) (h1 k))
  rw [Cert.KernelIdeal.Hand.result_entry, Cert.ReferenceIdeal.Hand.result_entry, ht]
  simp only [hs, hw]
  exact weights_are_softmax l u h0 h1 M j

/-- The whole array. -/
theorem same (c : Dev Cert.KernelIdeal.nD)
    (h : Cert.Pre_interior.fn (F := Ideal) (logits m c) (noise m c) = fun _ => 1#1) :
    result m c = Cert.ReferenceIdeal.Read.val_main_v17 (F := Ideal) (logits m c) (noise m c) := by
  funext z
  obtain ⟨i, j, rfl⟩ : ∃ (i : Fin 128) (j : Fin 100000), z = ix2 i j :=
    ⟨z 0, z 1, funext fun a => by match a with | ⟨0, _⟩ => rfl | ⟨1, _⟩ => rfl⟩
  exact same_entry m c h i j

end Cert.Equation

end
-- ==== Proof.lean ====
/-
  The claims, put together.

  The kernel as printed keeps its arguments and leaves every semaphore at zero. Read over the extended reals it does so
  too, and leaves the array of `Output`. The reference leaves its softmax, entry by entry in `Reference`. `Equation`
  says the two arrays are equal where the precondition holds.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_interior
public import proofs.«01_k».proof.Proof.Printed
public import proofs.«01_k».proof.Proof.Equation
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem

/-- The kernel over the extended reals keeps its arguments and ends with every semaphore at zero. -/
theorem kernel_frame (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ (fun r => (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
        ∧ r.2.sem = fun _ => 0) :=
  (θ_run Cert.KernelIdeal.defs _ _).mono (fun _ h => ⟨fun c => (h.1 c).2, h.2⟩) (Cert.KernelIdeal.Hand.run m g)

/-- The reference does too. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- From arguments the precondition allows, both leave the same array. -/
theorem equal_results :
    Cert.algebraic_KernelIdeal_ReferenceIdeal_pre_interior (hKernelIdeal := Cert.KernelIdeal.Gen.facts)
      (hReferenceIdeal := Cert.ReferenceIdeal.Gen.facts) (hPre_interior := Cert.Pre_interior.Gen.facts) := by
  intro m g m' g' hpre hsame
  refine ⟨Cert.KernelIdeal.Hand.result m, ?_, ?_⟩
  · exact (θ_run Cert.KernelIdeal.defs _ _).mono (fun _ h => h.1) (Cert.KernelIdeal.Hand.run m g)
  · refine (θ_run Cert.ReferenceIdeal.defs _ _).mono (fun r h c => ⟨?_, (h c).2⟩) (Cert.ReferenceIdeal.Value.run (F := Ideal) m' g')
    rw [(h c).1, Cert.ReferenceIdeal.Read.val_main_v17_eq, (hsame c).1, (hsame c).2]
    exact (Cert.Equation.same m c (hpre c)).symm

theorem claim : Cert.Claim :=
  ⟨Cert.Kernel.Gen.facts, Cert.KernelIdeal.Gen.facts, Cert.ReferenceIdeal.Gen.facts, Cert.Pre_interior.Gen.facts,
    Cert.Printed.frame, fun m g _ => kernel_frame m g, fun m g _ => kernel_frame m g,
    fun m g _ => reference_frame m g, fun m g _ => reference_frame m g, trivial, equal_results⟩

end Cert.Proof

end
